-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x128x128 : Shape := ⟨4, ![4, 256, 128, 128]⟩
abbrev S_ : Shape := ⟨0, ![]⟩

class Facts : Prop where
  bcast_S_S4x256x128x128 : S_.BroadcastsInDim S4x256x128x128 (![] : Fin 0 → Fin S4x256x128x128.rank)
  reducesTo_S4x256x128x128_S_d0_1_2_3 : S4x256x128x128.ReducesTo [0, 1, 2, 3] S_
  h_S_ : 0 < S_.numel

variable [Facts]

def fn {F : FTy → Type} [FloatOps F] (main_arg0 : FVec F S4x256x128x128 .f32) : IVec S_ 1 :=
  let main_v0 : FVec F S4x256x128x128 .f32 := Host.absf main_arg0
  let main_cst : FVec F S_ .f32 := constant S_ .f32 0x7F800000#32
  let main_v1 : FVec F S4x256x128x128 .f32 := broadcastInDim S4x256x128x128 ![] bcast_S_S4x256x128x128 main_cst
  let main_v2 : IVec S4x256x128x128 1 := cmpf .olt main_v0 main_v1
  let main_c : IVec S_ 1 := constantI S_ 1 1#1
  let main_v3 : IVec S_ 1 := (fun x v => Host.reduce IntOp.andi x v reducesTo_S4x256x128x128_S_d0_1_2_3 h_S_) main_v2 main_c
  main_v3
-- ==== Kernel.lean ====
abbrev S4x256x128x128 : Shape := ⟨4, ![4, 256, 128, 128]⟩
abbrev S256x256 : Shape := ⟨2, ![256, 256]⟩
abbrev S1x32x128x128 : Shape := ⟨4, ![1, 32, 128, 128]⟩
abbrev S32x128x128 : Shape := ⟨3, ![32, 128, 128]⟩
abbrev S96x128x128 : Shape := ⟨3, ![96, 128, 128]⟩
abbrev S96x1x1 : Shape := ⟨3, ![96, 1, 1]⟩
abbrev S95x128x128 : Shape := ⟨3, ![95, 128, 128]⟩
abbrev S93x128x128 : Shape := ⟨3, ![93, 128, 128]⟩
abbrev S89x128x128 : Shape := ⟨3, ![89, 128, 128]⟩
abbrev S81x128x128 : Shape := ⟨3, ![81, 128, 128]⟩
abbrev S16x256x128 : Shape := ⟨3, ![16, 256, 128]⟩
abbrev S1x256x128 : Shape := ⟨3, ![1, 256, 128]⟩
abbrev S256x128 : Shape := ⟨2, ![256, 128]⟩

abbrev nBuf : Space → Nat
  | .hbm => 3
  | .vmem => 9
  | .smem => 0
  | _ => 0

abbrev bufTy : (tb : Table) → Fin (tcTables nBuf tb) → BufTy
  | .hbm, ⟨0, _⟩ => ⟨S4x256x128x128, .f32⟩
  | .hbm, ⟨1, _⟩ => ⟨S256x256, .f32⟩
  | .hbm, ⟨2, _⟩ => ⟨S4x256x128x128, .f32⟩
  | .local _ .vmem, ⟨0, _⟩ => ⟨S1x32x128x128, .f32⟩
  | .local _ .vmem, ⟨1, _⟩ => ⟨S1x32x128x128, .f32⟩
  | .local _ .vmem, ⟨2, _⟩ => ⟨S1x32x128x128, .f32⟩
  | .local _ .vmem, ⟨3, _⟩ => ⟨S1x32x128x128, .f32⟩
  | .local _ .vmem, ⟨4, _⟩ => ⟨S1x32x128x128, .f32⟩
  | .local _ .vmem, ⟨5, _⟩ => ⟨S1x32x128x128, .f32⟩
  | .local _ .vmem, ⟨6, _⟩ => ⟨S256x256, .f32⟩
  | .local _ .vmem, ⟨7, _⟩ => ⟨S1x32x128x128, .f32⟩
  | .local _ .vmem, ⟨8, _⟩ => ⟨S1x32x128x128, .f32⟩
  | _, _ => ⟨S4x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x256x128x128 : Shape := ⟨4, ![4, 256, 128, 128]⟩
abbrev S_ : Shape := ⟨0, ![]⟩
abbrev S4x272x128x128 : Shape := ⟨4, ![4, 272, 128, 128]⟩
abbrev S4x1x128x128 : Shape := ⟨4, ![4, 1, 128, 128]⟩
abbrev S4x273x128x128 : Shape := ⟨4, ![4, 273, 128, 128]⟩
abbrev S16 : Shape := ⟨1, ![16]⟩
abbrev S128 : Shape := ⟨1, ![128]⟩
abbrev S128x1 : Shape := ⟨2, ![128, 1]⟩
abbrev S1x16 : Shape := ⟨2, ![1, 16]⟩
abbrev S128x16 : Shape := ⟨2, ![128, 16]⟩
abbrev S128x128 : Shape := ⟨2, ![128, 128]⟩
abbrev S2048 : Shape := ⟨1, ![2048]⟩
abbrev S2048x1 : Shape := ⟨2, ![2048, 1]⟩
abbrev S2048x2 : Shape := ⟨2, ![2048, 2]⟩
abbrev S128x4x256x128 : Shape := ⟨4, ![128, 4, 256, 128]⟩

abbrev nBuf : Space → Nat
  | .hbm => 59
  | .vmem => 0
  | .smem => 0
  | _ => 0

abbrev bufTy : (tb : Table) → Fin (tcTables nBuf tb) → BufTy
  | .hbm, ⟨0, _⟩ => ⟨S4x256x128x128, .f32⟩
  | .hbm, ⟨1, _⟩ => ⟨S_, .i32⟩
  | .hbm, ⟨2, _⟩ => ⟨S_, .f32⟩
  | .hbm, ⟨3, _⟩ => ⟨S4x272x128x128, .f32⟩
  | .hbm, ⟨4, _⟩ => ⟨S_, .f32⟩
  | .hbm, ⟨5, _⟩ => ⟨S_, .f32⟩
  | .hbm, ⟨6, _⟩ => ⟨S4x272x128x128, .f32⟩
  | .hbm, ⟨7, _⟩ => ⟨S4x1x128x128, .f32⟩
  | .hbm, ⟨8, _⟩ => ⟨S_, .f32⟩
  | .hbm, ⟨9, _⟩ => ⟨S4x1x128x128, .f32⟩
  | .hbm, ⟨10, _⟩ => ⟨S4x273x128x128, .f32⟩
  | .hbm, ⟨11, _⟩ => ⟨S4x256x128x128, .f32⟩
  | .hbm, ⟨12, _⟩ => ⟨S4x256x128x128, .f32⟩
  | .hbm, ⟨13, _⟩ => ⟨S4x256x128x128, .f32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S128, .i32⟩
  | .hbm, ⟨19, _⟩ => ⟨S128x1, .i32⟩
  | .hbm, ⟨20, _⟩ => ⟨S1x16, .i32⟩
  | .hbm, ⟨21, _⟩ => ⟨S128x16, .i32⟩
  | .hbm, ⟨22, _⟩ => ⟨S128x16, .i32⟩
  | .hbm, ⟨23, _⟩ => ⟨S128x16, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S128x16, .i32⟩
  | .hbm, ⟨28, _⟩ => ⟨S128x16, .i32⟩
  | .hbm, ⟨29, _⟩ => ⟨S_, .i32⟩
  | .hbm, ⟨30, _⟩ => ⟨S128x16, .i32⟩
  | .hbm, ⟨31, _⟩ => ⟨S128x16, .i32⟩
  | .hbm, ⟨32, _⟩ => ⟨S_, .f32⟩
  | .hbm, ⟨33, _⟩ => ⟨S128x128, .f32⟩
  | .hbm, ⟨34, _⟩ => ⟨S128x16, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S2048x1, .i32⟩
  | .hbm, ⟨53, _⟩ => ⟨S2048x2, .i32⟩
  | .hbm, ⟨54, _⟩ => ⟨S_, .f32⟩
  | .hbm, ⟨55, _⟩ => ⟨S2048, .f32⟩
  | .hbm, ⟨56, _⟩ => ⟨S128x128, .f32⟩
  | .hbm, ⟨57, _⟩ => ⟨S128x4x256x128, .f32⟩
  | .hbm, ⟨58, _⟩ => ⟨S4x256x128x128, .f32⟩
  | _, _ => ⟨S4x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_call1_call0_cst : Ref sig .tc := ⟨.hbm, 4, rfl⟩
abbrev main_call1_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_c_2 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Proof.Mix.lean ====
/-
  THE MIXING MATRIX. Harmonic `k + 1` of bin `o` is bin `o * (k + 1)`, clipped to the last bin, 127. `hits o f` counts
  the harmonics of `o` that land on bin `f`: the entry of the mixing matrix at row `o`, column `f`. The kernel's constant
  is a 256 × 256 table of float words with two copies of that matrix on its diagonal: the words of `entry`, as
  Proof/Rows.lean shows. Here each of those words is read as an extended real (`ofBits_word`).
-/
module

public import Idealize.ShloMosaic.PureOps.Ideal

@[expose] public section

noncomputable section

namespace Cert.Proof

open Idealize.ShloMosaic

/-- The bin of harmonic `k + 1` of bin `o`. -/
def bin (o k : ℕ) : ℕ := min (o * (k + 1)) 127

/-- How many of the sixteen harmonics of bin `o` land on bin `f`. -/
def hits (o f : ℕ) : ℕ := (List.range 16).countP fun k => bin o k == f

/-- The float word of a small natural number. -/
def word : ℕ → BitVec 32
  | 0 => 0x00000000#32
  | 1 => 0x3F800000#32
  | 2 => 0x40000000#32
  | 3 => 0x40400000#32
  | 4 => 0x40800000#32
  | 5 => 0x40A00000#32
  | 6 => 0x40C00000#32
  | 7 => 0x40E00000#32
  | 8 => 0x41000000#32
  | 9 => 0x41100000#32
  | 10 => 0x41200000#32
  | 11 => 0x41300000#32
  | 12 => 0x41400000#32
  | 13 => 0x41500000#32
  | 14 => 0x41600000#32
  | 15 => 0x41700000#32
  | _ => 0x41800000#32

/-- The entry of the kernel's matrix at row `q`, column `p`: two copies of the mixing matrix on the diagonal. -/
def entry (q p : ℕ) : ℕ := if q / 128 = p / 128 then hits (q % 128) (p % 128) else 0

/-- `hits`, by operations on numerals alone. -/
def hitsNum (o f : ℕ) : ℕ :=
  [0, 1, 2, 3, 4, 5, 6, 7, 8, 9, 10, 11, 12, 13, 14, 15].foldr
    (fun k n => cond (Nat.beq (cond (Nat.ble (o * (k + 1)) 127) (o * (k + 1)) 127) f) (n + 1) n) 0

/-- `entry`, by operations on numerals alone. -/
def entryNum (q p : ℕ) : ℕ := cond (Nat.beq (q / 128) (p / 128)) (hitsNum (q % 128) (p % 128)) 0

theorem foldr_eq_countP (g : ℕ → ℕ) (f : ℕ) (l : List ℕ) :
    l.foldr (fun k n => cond (Nat.beq (g k) f) (n + 1) n) 0 = l.countP fun k => g k == f := by
  induction l with
  | nil => rfl
  | cons a l ih =>
    rw [List.foldr_cons, ih, List.countP_cons]
    by_cases h : g a = f
    · simp [h]
    · rw [Bool.eq_false_iff.mpr (fun e => h (Nat.eq_of_beq_eq_true e))]
      simp [h]

theorem bin_eq (o k : ℕ) : cond (Nat.ble (o * (k + 1)) 127) (o * (k + 1)) 127 = bin o k := by
  unfold bin
  by_cases h : o * (k + 1) ≤ 127
  · rw [Nat.ble_eq.mpr h, cond_true, min_eq_left h]
  · rw [Bool.eq_false_iff.mpr (fun e => h (Nat.ble_eq.mp e)), cond_false, min_eq_right (by omega)]

theorem hitsNum_eq (o f : ℕ) : hitsNum o f = hits o f := by
  unfold hitsNum hits
  rw [foldr_eq_countP (fun k => cond (Nat.ble (o * (k + 1)) 127) (o * (k + 1)) 127)]
  simp only [bin_eq]
  rfl

theorem entryNum_eq (q p : ℕ) : entryNum q p = entry q p := by
  unfold entryNum entry
  by_cases h : q / 128 = p / 128
  · rw [if_pos h, h, Nat.beq_refl, cond_true, hitsNum_eq]
  · rw [if_neg h, Bool.eq_false_iff.mpr (fun e => h (Nat.eq_of_beq_eq_true e)), cond_false]

theorem hits_le (o f : ℕ) : hits o f ≤ 16 := by
  unfold hits
  exact List.countP_le_length.trans (by simp)

theorem entry_le (q p : ℕ) : entry q p ≤ 16 := by
  unfold entry
  split
  · exact hits_le _ _
  · exact Nat.zero_le _

/-- The word of a count of harmonics is that count. -/
theorem ofBits_word (n : ℕ) (h : n ≤ 16) : (Ideal.ofBits .f32 (word n) : EReal) = (n : EReal) := by
  interval_cases n <;> (simp [word, Ideal.ofBits, Ideal.ieee, -EReal.coe_mul] <;> norm_num <;> rfl)

end Cert.Proof

end
-- ==== Proof.Spec.lean ====
/-
  WHAT BOTH PROGRAMS COMPUTE. For one batch, bin and channel the input is a series in time, `series`; put eight zeros
  before it and eight after it and add seventeen consecutive entries, `window`. The result at batch `b`, time `t`, bin `o`
  and channel `c` is the sum over the bins `f` of `hits o f` times the window of bin `f` at time `t`.
-/
module

public import proofs.«01_k».proof.Proof.Mix
public import Idealize.ShloMosaic.Lib.Pointwise

@[expose] public section

noncomputable section

namespace Cert.Proof

open Idealize.ShloMosaic Idealize.ShloMosaic.Pointwise

/-- The shape of the input and of the result. -/
abbrev SX : Shape := ⟨4, ![4, 256, 128, 128]⟩

/-- The input in time, at one batch, bin and channel. -/
def series (x : SX.Idx → EReal) (b : Fin 4) (f c : Fin 128) (s : ℕ) : EReal :=
  if h : s < 256 then x (ix4 b ⟨s, h⟩ f c) else 0

/-- A series with eight zeros before it and after it. -/
def padded (y : ℕ → EReal) (s : ℕ) : EReal := if 8 ≤ s ∧ s < 264 then y (s - 8) else 0

/-- Seventeen consecutive entries of the padded series, from `t` on. -/
def window (y : ℕ → EReal) (t : ℕ) : EReal := ∑ d ∈ Finset.range 17, padded y (t + d)

/-- The result both programs compute from the input `x`. -/
def result (x : SX.Idx → EReal) : SX.Idx → EReal := fun j =>
  ∑ f : Fin 128, (hits (j 2) f : EReal) * window (series x (j 0) f (j 3)) (j 1)

end Cert.Proof

end
-- ==== Proof.Block.lean ====
/-
  ONE BLOCK OF THE KERNEL. At one grid point the kernel reads three blocks of the input (the one before, the current one
  and the one after, 32 times each) and its constant matrix, and stores one block of the result. Here that block is read
  at an index: the three blocks laid in a row and masked (`ext_apply`), the window sums by doubling (`pay3_apply`), the
  sixteen products (`tile_apply`), and the stored block (`block_apply`).
-/
module

public import proofs.«01_k».proof.Proof.Gen.KernelIdeal.Skeleton
public import proofs.«01_k».proof.Proof.Spec

@[expose] public section

noncomputable section

namespace Cert.Proof.Block

open Idealize.ShloMosaic Idealize.ShloMosaic.Pointwise
open Cert.KernelIdeal Cert.KernelIdeal.Gen

/-! ### The stored block is a stack of sixteen tiles -/

theorem stack_apply (w : Fin 16 → FVec Ideal S1x256x128 .f32) (r : Fin 16) (q : Fin 256) (c : Fin 128) :
    concatenate S16x256x128 0 (List.ofFn fun n : Fin 16 => (⟨S1x256x128, w n⟩ : (s : Shape) × (s.Idx → EReal)))
      concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0
      (ix3 r q c) = w r (ix3 0 q c) := by
  refine (concatenate_ofFn_unit_apply' (0 : Fin S16x256x128.rank) w _ rfl (ix3 r q c)).trans ?_
  pointwise

theorem unstack_apply (x : FVec Ideal S16x256x128 .f32) (r : Fin 32) (o c : Fin 128) :
    shapeCast S1x32x128x128 x shapeCasts_S16x256x128_S1x32x128x128 (ix4 (0 : Fin 1) r o c)
      = x (ix3 ⟨r / 2, by omega⟩ ⟨r % 2 * 128 + o, by omega⟩ c) := by
  pointwise

theorem tile_cast_apply (x : FVec Ideal S256x128 .f32) (q : Fin 256) (c : Fin 128) :
    shapeCast S1x256x128 x shapeCasts_S256x128_S1x256x128 (ix3 (0 : Fin 1) q c) = x (ix2 q c) := by
  pointwise

theorem pay2_apply (w : Fin 16 → FVec Ideal S256x128 .f32) (r : Fin 32) (o c : Fin 128) :
    k0_pay2 (w 0) (w 1) (w 2) (w 3) (w 4) (w 5) (w 6) (w 7) (w 8) (w 9) (w 10) (w 11) (w 12) (w 13) (w 14) (w 15)
      (ix4 (0 : Fin 1) r o c) = w ⟨r / 2, by omega⟩ (ix2 ⟨r % 2 * 128 + o, by omega⟩ c) := by
  unfold k0_pay2
  refine (unstack_apply _ r o c).trans ?_
  refine (stack_apply (fun n => shapeCast S1x256x128 (w n) shapeCasts_S256x128_S1x256x128) _ _ c).trans ?_
  exact tile_cast_apply _ _ _

/-! ### Each tile is a matrix product -/

/-- The product of the matrix with tile `n` of the windows. -/
theorem product_apply (n : ℕ) (hn : n < 16) (h : S16x256x128.Slices ![n, 0, 0] S1x256x128)
    (v36 : FVec Ideal S16x256x128 .f32) (v37 : Vec Ideal S256x256 .f32) (q : Fin 256) (c : Fin 128) :
    matmul (φ₁ := .f32) dot_S256x256_S256x128_S256x128_1_0_0_1_n_n none v37
        (shapeCast S256x128 (extractStridedSlice S1x256x128 ![n, 0, 0] v36 h) shapeCasts_S1x256x128_S256x128)
        (constant S256x128 .f32 0x00000000#32) (ix2 q c)
      = ∑ p : Fin 256, v37 (ix2 q p) * v36 (ix3 ⟨n, hn⟩ p c) := by
  pointwise

/-- The sixteen tiles, from the windows and the matrix. -/
def tile (v36 : FVec Ideal S16x256x128 .f32) (v37 : Vec Ideal S256x256 .f32) : Fin 16 → FVec Ideal S256x128 .f32 :=
  ![k0_pay5 v37 (extractStridedSlice S1x256x128 ![0, 0, 0] v36 slices_S16x256x128_o0_0_0_S1x256x128),
    k0_pay6 v36 v37, k0_pay7 v36 v37, k0_pay8 v36 v37, k0_pay9 v36 v37, k0_pay10 v36 v37, k0_pay11 v36 v37,
    k0_pay12 v36 v37, k0_pay13 v36 v37, k0_pay14 v36 v37, k0_pay15 v36 v37, k0_pay16 v36 v37, k0_pay17 v36 v37,
    k0_pay18 v36 v37, k0_pay19 v36 v37, k0_pay1 v37 (k0_pay20 v36)]

theorem tile_apply (v36 : FVec Ideal S16x256x128 .f32) (v37 : Vec Ideal S256x256 .f32) (n : Fin 16) (q : Fin 256)
    (c : Fin 128) : tile v36 v37 n (ix2 q c) = ∑ p : Fin 256, v37 (ix2 q p) * v36 (ix3 n p c) := by
  fin_cases n
  case «15» => exact product_apply 15 (by norm_num) slices_S16x256x128_o15_0_0_S1x256x128 v36 v37 q c
  all_goals exact product_apply _ _ _ v36 v37 q c

/-! ### The three blocks in a row, masked -/

/-- The three input blocks laid in a row along time, the entries outside the input put to zero. -/
def ext (i : grid0.Coords) (a b d : Vec Ideal S1x32x128x128 .f32) : FVec Ideal S96x128x128 .f32 :=
  select
    (broadcastTo S96x128x128
      (shapeCast S96x1x1
        (andi
          (cmpi .sge
            (addi (broadcast S96x1x1 (Scalar.subi (Scalar.muli (BitVec.ofNat 32 (i 1).val) 32#32) 32#32))
              (iota .tc S96x1x1 32 [0] iota_S96x1x1_d0_w32)) (broadcast S96x1x1 0#32))
          (cmpi .slt
            (addi (broadcast S96x1x1 (Scalar.subi (Scalar.muli (BitVec.ofNat 32 (i 1).val) 32#32) 32#32))
              (iota .tc S96x1x1 32 [0] iota_S96x1x1_d0_w32)) (broadcast S96x1x1 256#32)))
        shapeCasts_S96x1x1_S96x1x1)
      broadcasts_S96x1x1_S96x128x128)
    (concatenate S96x128x128 0
      [⟨S32x128x128, shapeCast S32x128x128 a shapeCasts_S1x32x128x128_S32x128x128⟩,
        ⟨S32x128x128, shapeCast S32x128x128 b shapeCasts_S1x32x128x128_S32x128x128⟩,
        ⟨S32x128x128, shapeCast S32x128x128 d shapeCasts_S1x32x128x128_S32x128x128⟩]
      concatenates_S32x128x128_S32x128x128_S32x128x128_S96x128x128_d0)
    (broadcast S96x128x128 (Scalar.ofBits .f32 0x00000000#32))

/-- The mask is true at the times of the input. -/
theorem mask_eq : ∀ (t : Fin 8) (n : Fin 96),
    IntOp.andi
        (IntOp.cmpi .sge (IntOp.addi (Scalar.subi (Scalar.muli (BitVec.ofNat 32 t.val) 32#32) 32#32) (BitVec.ofNat 32 n.val)) 0#32)
        (IntOp.cmpi .slt (IntOp.addi (Scalar.subi (Scalar.muli (BitVec.ofNat 32 t.val) 32#32) 32#32) (BitVec.ofNat 32 n.val)) 256#32)
      = if 32 ≤ 32 * t.val + n.val ∧ 32 * t.val + n.val < 288 then 1#1 else 0#1 := by
  decide +kernel

theorem ext_apply (i : grid0.Coords) (a b d : Vec Ideal S1x32x128x128 .f32) (f c : Fin 128) (y : ℕ → EReal)
    (t : Fin 8) (ht : (i 1).val = t.val)
    (ha : 0 < t.val → ∀ r : Fin 32, a (ix4 (0 : Fin 1) r f c) = y (32 * (t.val - 1) + r.val))
    (hb : ∀ r : Fin 32, b (ix4 (0 : Fin 1) r f c) = y (32 * t.val + r.val))
    (hd : t.val < 7 → ∀ r : Fin 32, d (ix4 (0 : Fin 1) r f c) = y (32 * (t.val + 1) + r.val))
    (n : ℕ) (hn : n < 96) :
    ext i a b d (ix3 ⟨n, hn⟩ f c)
      = if 32 ≤ 32 * t.val + n ∧ 32 * t.val + n < 288 then y (32 * t.val + n - 32) else 0 := by
  pointwise [ext]
  rw [ht, mask_eq t ⟨n, hn⟩]
  by_cases h : 32 ≤ 32 * t.val + n ∧ 32 * t.val + n < 288
  · rw [if_pos h, if_pos h]
    refine (if_pos rfl).trans ?_
    by_cases h1 : n < 32
    · rw [dif_pos h1, ha (by omega)]
      exact congrArg y (by simp only; omega)
    · rw [dif_neg h1]
      by_cases h2 : n - 32 < 32
      · rw [dif_pos h2, hb]
        exact congrArg y (by simp only; omega)
      · rw [dif_neg h2, hd (by omega)]
        exact congrArg y (by simp only; omega)
  · rw [if_neg h, if_neg h]
    exact if_neg (by decide)

/-! ### The windows, by doubling -/

/-- The window sums of a row of 96 times: seventeen consecutive entries, summed by doubling, then cut in tiles. -/
def windows (v20 : FVec Ideal S96x128x128 .f32) : FVec Ideal S16x256x128 .f32 :=
  have v21 : FVec Ideal S95x128x128 .f32 := extractStridedSlice S95x128x128 ![0, 0, 0] v20 slices_S96x128x128_o0_0_0_S95x128x128
  have v22 : FVec Ideal S95x128x128 .f32 := extractStridedSlice S95x128x128 ![1, 0, 0] v20 slices_S96x128x128_o1_0_0_S95x128x128
  have v23 : FVec Ideal S95x128x128 .f32 := addf v21 v22
  have v24 : FVec Ideal S93x128x128 .f32 := extractStridedSlice S93x128x128 ![0, 0, 0] v23 slices_S95x128x128_o0_0_0_S93x128x128
  have v25 : FVec Ideal S93x128x128 .f32 := extractStridedSlice S93x128x128 ![2, 0, 0] v23 slices_S95x128x128_o2_0_0_S93x128x128
  have v26 : FVec Ideal S93x128x128 .f32 := addf v24 v25
  have v27 : FVec Ideal S89x128x128 .f32 := extractStridedSlice S89x128x128 ![0, 0, 0] v26 slices_S93x128x128_o0_0_0_S89x128x128
  have v28 : FVec Ideal S89x128x128 .f32 := extractStridedSlice S89x128x128 ![4, 0, 0] v26 slices_S93x128x128_o4_0_0_S89x128x128
  have v29 : FVec Ideal S89x128x128 .f32 := addf v27 v28
  have v30 : FVec Ideal S81x128x128 .f32 := extractStridedSlice S81x128x128 ![0, 0, 0] v29 slices_S89x128x128_o0_0_0_S81x128x128
  have v31 : FVec Ideal S81x128x128 .f32 := extractStridedSlice S81x128x128 ![8, 0, 0] v29 slices_S89x128x128_o8_0_0_S81x128x128
  have v32 : FVec Ideal S81x128x128 .f32 := addf v30 v31
  have v33 : FVec Ideal S32x128x128 .f32 := extractStridedSlice S32x128x128 ![24, 0, 0] v32 slices_S81x128x128_o24_0_0_S32x128x128
  have v34 : FVec Ideal S32x128x128 .f32 := extractStridedSlice S32x128x128 ![40, 0, 0] v20 slices_S96x128x128_o40_0_0_S32x128x128
  shapeCast S16x256x128 (addf v33 v34) shapeCasts_S32x128x128_S16x256x128

theorem pay3_eq (i : grid0.Coords) (a b d : Vec Ideal S1x32x128x128 .f32) :
    k0_pay3 i a b d = windows (ext i a b d) := rfl

theorem windows_apply (v20 : FVec Ideal S96x128x128 .f32) (m : Fin 16) (p : Fin 256) (c f : Fin 128)
    (hf : f.val = p.val % 128) (e : ℕ → EReal) (he : ∀ (n : ℕ) (hn : n < 96), v20 (ix3 ⟨n, hn⟩ f c) = e n) :
    windows v20 (ix3 m p c) = ∑ k ∈ Finset.range 17, e (24 + (m.val * 2 + p.val / 128) + k) := by
  obtain rfl : f = ⟨p.val % 128, Nat.mod_lt _ (by norm_num)⟩ := Fin.ext hf
  pointwise [windows]
  simp only [he]
  generalize m.val * 2 + p.val / 128 = n
  simp only [Finset.sum_range_succ, Finset.sum_range_zero, Nat.add_comm (24 + n)]
  simp only [← Nat.add_assoc, Nat.reduceAdd, zero_add]
  abel

theorem pay3_apply (i : grid0.Coords) (a b d : Vec Ideal S1x32x128x128 .f32) (m : Fin 16) (p : Fin 256) (c f : Fin 128)
    (hf : f.val = p.val % 128) (y : ℕ → EReal) (t : Fin 8) (ht : (i 1).val = t.val)
    (ha : 0 < t.val → ∀ r : Fin 32, a (ix4 (0 : Fin 1) r f c) = y (32 * (t.val - 1) + r.val))
    (hb : ∀ r : Fin 32, b (ix4 (0 : Fin 1) r f c) = y (32 * t.val + r.val))
    (hd : t.val < 7 → ∀ r : Fin 32, d (ix4 (0 : Fin 1) r f c) = y (32 * (t.val + 1) + r.val)) :
    k0_pay3 i a b d (ix3 m p c) = window y (32 * t.val + (m.val * 2 + p.val / 128)) := by
  rw [pay3_eq, windows_apply _ m p c f hf _ (ext_apply i a b d f c y t ht ha hb hd)]
  refine Finset.sum_congr rfl fun k hk => ?_
  unfold padded
  generalize m.val * 2 + p.val / 128 = n
  refine if_congr (by omega) (congrArg y (by omega)) rfl

/-! ### The stored block -/

/-- A row of the matrix against a row of 256: one of the two halves, in the mixing matrix's entries. -/
theorem entry_sum (r : ℕ) (hr : r < 2) (o : Fin 128) (w : Fin 256 → EReal) :
    ∑ p : Fin 256, ((entry (r * 128 + o) p : ℕ) : EReal) * w p
      = ∑ f : Fin 128, (hits o f : EReal) * w ⟨r * 128 + f, by omega⟩ := by
  have e := Fin.sum_univ_add (a := 128) (b := 128) fun p : Fin 256 => ((entry (r * 128 + o) p : ℕ) : EReal) * w p
  refine e.trans ?_
  have same : ∀ f : Fin 128, entry (r * 128 + o) (r * 128 + f) = hits o f := fun f => by
    unfold entry
    rw [if_pos (by omega)]
    exact congrArg₂ hits (by omega) (by omega)
  have other : ∀ (s : ℕ) (f : Fin 128), s ≠ r → entry (r * 128 + o) (s * 128 + f) = 0 := fun s f h =>
    if_neg (by omega)
  obtain rfl | rfl : r = 0 ∨ r = 1 := by omega
  · rw [Finset.sum_eq_zero (s := Finset.univ) (f := fun i : Fin 128 => _ * w (Fin.natAdd 128 i)), add_zero]
    · refine Finset.sum_congr rfl fun f _ => ?_
      rw [← same f]
      exact congrArg₂ (fun n q => ((entry (0 * 128 + o) n : ℕ) : EReal) * w q) (by simp) (Fin.ext (by simp))
    · intro f _
      have h := other 1 f (by omega)
      rw [show ((Fin.natAdd 128 f : Fin 256) : ℕ) = 1 * 128 + f by simp [Nat.add_comm], h, Nat.cast_zero, zero_mul]
  · rw [Finset.sum_eq_zero (s := Finset.univ) (f := fun i : Fin 128 => _ * w (Fin.castAdd 128 i)), zero_add]
    · refine Finset.sum_congr rfl fun f _ => ?_
      rw [← same f]
      exact congrArg₂ (fun n q => ((entry (1 * 128 + o) n : ℕ) : EReal) * w q) (by simp [Nat.add_comm])
        (Fin.ext (by simp [Nat.add_comm]))
    · intro f _
      have h := other 0 f (by omega)
      rw [show ((Fin.castAdd 128 f : Fin 256) : ℕ) = 0 * 128 + f by simp, h, Nat.cast_zero, zero_mul]

/-- What the kernel stores at one grid point, from its three input blocks and its matrix. -/
def stored (i : grid0.Coords) (a b d : Vec Ideal S1x32x128x128 .f32) (v37 : Vec Ideal S256x256 .f32) :
    FVec Ideal S1x32x128x128 .f32 :=
  k0_pay2 (k0_pay5 v37 (k0_pay4 i a b d)) (k0_pay6 (k0_pay3 i a b d) v37) (k0_pay7 (k0_pay3 i a b d) v37)
    (k0_pay8 (k0_pay3 i a b d) v37) (k0_pay9 (k0_pay3 i a b d) v37) (k0_pay10 (k0_pay3 i a b d) v37)
    (k0_pay11 (k0_pay3 i a b d) v37) (k0_pay12 (k0_pay3 i a b d) v37) (k0_pay13 (k0_pay3 i a b d) v37)
    (k0_pay14 (k0_pay3 i a b d) v37) (k0_pay15 (k0_pay3 i a b d) v37) (k0_pay16 (k0_pay3 i a b d) v37)
    (k0_pay17 (k0_pay3 i a b d) v37) (k0_pay18 (k0_pay3 i a b d) v37) (k0_pay19 (k0_pay3 i a b d) v37)
    (k0_pay1 v37 (k0_pay20 (k0_pay3 i a b d)))

theorem stored_apply (i : grid0.Coords) (a b d : Vec Ideal S1x32x128x128 .f32) (v37 : Vec Ideal S256x256 .f32)
    (r : Fin 32) (o c : Fin 128) (y : Fin 128 → ℕ → EReal) (t : Fin 8) (ht : (i 1).val = t.val)
    (ha : 0 < t.val → ∀ (f : Fin 128) (r : Fin 32), a (ix4 (0 : Fin 1) r f c) = y f (32 * (t.val - 1) + r.val))
    (hb : ∀ (f : Fin 128) (r : Fin 32), b (ix4 (0 : Fin 1) r f c) = y f (32 * t.val + r.val))
    (hd : t.val < 7 → ∀ (f : Fin 128) (r : Fin 32), d (ix4 (0 : Fin 1) r f c) = y f (32 * (t.val + 1) + r.val))
    (hm : ∀ q p : Fin 256, v37 (ix2 q p) = ((entry q p : ℕ) : EReal)) :
    stored i a b d v37 (ix4 (0 : Fin 1) r o c)
      = ∑ f : Fin 128, (hits o f : EReal) * window (y f) (32 * t.val + r.val) := by
  refine (pay2_apply (tile (k0_pay3 i a b d) v37) r o c).trans ?_
  rw [tile_apply]
  simp only [hm]
  refine (entry_sum (r.val % 2) (by omega) o
    fun p => k0_pay3 i a b d (ix3 ⟨r / 2, by omega⟩ p c)).trans ?_
  refine Finset.sum_congr rfl fun f _ => ?_
  rw [pay3_apply i a b d _ _ c f (by simp only; omega) (y f) t ht (fun h => ha h f) (hb f) (fun h => hd h f)]
  exact congrArg (fun n => (hits o f : EReal) * window (y f) (32 * t.val + n)) (by simp only; omega)

end Cert.Proof.Block

end
-- ==== Proof.Rows.lean ====
/-
  THE KERNEL'S TABLE. The words of its 256 × 256 constant, row by row, are the words of `entry`.
-/
module

public import proofs.«01_k».proof.Proof.Mix
public import proofs.«01_k».proof.KernelIdeal

@[expose] public section

noncomputable section

namespace Cert.Proof

/-- Row `q` of the kernel's table of words is row `q` of `entry`, compared as numerals. -/
def RowOk (q : ℕ) : Prop := ((List.range 256).all fun p =>
  Nat.beq (Cert.KernelIdeal.lit0t (q * 256 + p)).toNat (word (entryNum q p)).toNat) = true

set_option maxHeartbeats 0 in
set_option maxRecDepth 100000 in
theorem rowOk (q : ℕ) (h : q < 256) : RowOk q := by
  unfold RowOk; interval_cases q <;> decide +kernel

/-- The word of the kernel's table at row `q`, column `p`. -/
theorem lit_word (q p : ℕ) (hq : q < 256) (hp : p < 256) :
    Cert.KernelIdeal.lit0t (q * 256 + p) = word (entry q p) := by
  have h := List.all_eq_true.mp (rowOk q hq) p (List.mem_range.mpr hp)
  rw [← entryNum_eq]
  exact BitVec.eq_of_toNat_eq (Nat.eq_of_beq_eq_true h)

end Cert.Proof

end
-- ==== Proof.KernelValue.lean ====
/-
  THE KERNEL'S RESULT. Every grid point writes back one block of `result` of the input: its three input blocks are the
  times before, at and after its own (the first and the last point repeat a block there, which the mask puts to zero), and
  its matrix is the table of `entry`. The blocks tile the array, so the array ends at `result` of the input.
-/
module

public import proofs.«01_k».proof.Proof.Gen.KernelIdeal.Value
public import proofs.«01_k».proof.Proof.Block
public import proofs.«01_k».proof.Proof.Rows
public import Idealize.ShloMosaic.Lib.Pipeline.ValueKit

@[expose] public section

set_option maxRecDepth 16384

noncomputable section

namespace Cert.KernelIdeal.RefValue

open Idealize.ShloMosaic Idealize.ShloMosaic.TcCoe Idealize.ShloMosaic.Pointwise Idealize.SL.Sem
open Cert.KernelIdeal Cert.KernelIdeal.Gen Cert.Proof
open Idealize.ShloMosaic.Pipeline (Dat)

variable (m : (ℓ : Loc nD τ sig) → Buf (Elt Ideal) ℓ) (ρ : Dev nD → PrngReg)

/-- Where each window's block lies at each grid point. -/
theorem idx : ∀ t : Fin grid0.N,
    win0_0.index t = ![(grid0.coords t 0).val, (grid0.coords t 1).val - 1, 0, 0]
    ∧ win0_1.index t = ![(grid0.coords t 0).val, (grid0.coords t 1).val, 0, 0]
    ∧ win0_2.index t = ![(grid0.coords t 0).val, min ((grid0.coords t 1).val + 1) 7, 0, 0]
    ∧ win0_3.index t = ![0, 0]
    ∧ win0_4.index t = ![(grid0.coords t 0).val, (grid0.coords t 1).val, 0, 0] := by
  decide +kernel

/-- The input of core `c`. -/
abbrev input (c : Dev nD) : SX.Idx → EReal := m ((c : Thread nD τ).loc main_arg0)

theorem block0_apply (c : Dev nD) (t : Fin cfg0.N) (b : Fin 4) (hb : (grid0.coords t 0).val = b.val)
    (h : 0 < (grid0.coords t 1).val) (r : Fin 32) (f k : Fin 128) :
    (iblk m c 0 t : S1x32x128x128.Idx → EReal) (ix4 (0 : Fin 1) r f k)
      = series (input m c) b f k (32 * ((grid0.coords t 1).val - 1) + r.val) := by
  have h1 : (grid0.coords t 1).val < 8 := (grid0.coords t 1).isLt
  unfold series
  rw [dif_pos (by omega)]
  blk_ext [iblk, V_main_arg0, (idx t).1]

theorem block1_apply (c : Dev nD) (t : Fin cfg0.N) (b : Fin 4) (hb : (grid0.coords t 0).val = b.val)
    (r : Fin 32) (f k : Fin 128) :
    (iblk m c 1 t : S1x32x128x128.Idx → EReal) (ix4 (0 : Fin 1) r f k)
      = series (input m c) b f k (32 * (grid0.coords t 1).val + r.val) := by
  have h1 : (grid0.coords t 1).val < 8 := (grid0.coords t 1).isLt
  unfold series
  rw [dif_pos (by omega)]
  blk_ext [iblk, V_main_arg0, (idx t).2.1]

theorem block2_apply (c : Dev nD) (t : Fin cfg0.N) (b : Fin 4) (hb : (grid0.coords t 0).val = b.val)
    (h : (grid0.coords t 1).val < 7) (r : Fin 32) (f k : Fin 128) :
    (iblk m c 2 t : S1x32x128x128.Idx → EReal) (ix4 (0 : Fin 1) r f k)
      = series (input m c) b f k (32 * ((grid0.coords t 1).val + 1) + r.val) := by
  unfold series
  rw [dif_pos (by omega)]
  blk_ext [iblk, V_main_arg0, (idx t).2.2.1]

/-- The matrix the run reads is the table of words. -/
theorem matrix_entry (c : Dev nD) :
    V m c main_cst = fun i : S256x256.Idx => FloatOps.ofBits (F := Ideal) .f32 (lit0 (S256x256.rowMajor i)) := by
  entry_read
  rfl

theorem block3_apply (c : Dev nD) (t : Fin cfg0.N) (q p : Fin 256) :
    (iblk m c 3 t : S256x256.Idx → EReal) (ix2 q p) = ((entry q p : ℕ) : EReal) := by
  have e : (iblk m c 3 t : S256x256.Idx → EReal) (ix2 q p) = V m c main_cst (ix2 q p) := by
    blk_ext [iblk, (idx t).2.2.2.1]
  have pos : ((S256x256.rowMajor (ix2 q p) : Fin _) : ℕ) = q.val * 256 + p.val :=
    rowMajor_val2 _ 256 rfl
  refine e.trans ((congrFun (matrix_entry m c) (ix2 q p)).trans ?_)
  show Ideal.ofBits .f32 (lit0t ((S256x256.rowMajor (ix2 q p) : Fin _) : ℕ)) = _
  rw [pos, lit_word q p q.isLt p.isLt]
  exact ofBits_word _ (entry_le _ _)

/-- The windows of a grid point, from its blocks. -/
theorem pay21_eq (i : grid0.Coords) (x0 x1 x2 : Vec Ideal S1x32x128x128 .f32) (x3 : Vec Ideal S256x256 .f32) :
    k0_pay21 i x0 x1 x2 x3 = k0_pay3 i x0 x1 x2 := by
  unfold k0_pay21
  frame_out

/-- The result array after the run. -/
theorem final (c : Dev nD) : (dats m 0 c).arrAt 4 cfg0.N = result (input m c) := by
  refine (dats m 0 c).arrAt_eq_of_covers 4 _ (by decide +kernel) fun t hf y => ?_
  blk_simp
  rw [after0_4]
  frame_out
  simp only [pay21_eq]
  obtain ⟨r, o, k, rfl⟩ : ∃ (r : Fin 32) (o k : Fin 128), y = ix4 (0 : Fin 1) r o k :=
    ⟨y 1, y 2, y 3, by
      refine (eq_ix4 y).trans ?_
      congr 1
      exact Subsingleton.elim (α := Fin 1) _ _⟩
  refine (Block.stored_apply (grid0.coords t) (iblk m c 0 t) (iblk m c 1 t) (iblk m c 2 t) (iblk m c 3 t) r o k
    (fun f => series (input m c) (grid0.coords t 0) f k) (grid0.coords t 1) rfl
    (fun h f r => block0_apply m c t _ rfl h r f k) (fun f r => block1_apply m c t _ rfl r f k)
    (fun h f r => block2_apply m c t _ rfl h r f k) (block3_apply m c t)).trans ?_
  have place : ((View.whole main_v0).slice (win0_4.rect t)).emb (ix4 (0 : Fin 1) r o k)
      = ix4 (n0 := 4) (n1 := 256) (n2 := 128) (n3 := 128) (grid0.coords t 0)
        ⟨32 * (grid0.coords t 1).val + r.val, by have h : (grid0.coords t 1).val < 8 := (grid0.coords t 1).isLt; omega⟩ o k := by
    blk_ext [(idx t).2.2.2.2]
  rw [place]
  rfl

/-- The kernel's run: its result array ends at `result` of the input, its argument unchanged. -/
theorem run : θ_run defs (onTc (τ := τ) (main (F := Ideal))) ⟨m, fun _ => 0, ρ⟩ fun r => ∀ c : Dev nD,
      r.2.mem ((c : Thread nD τ).loc main_v0) = result (input m c)
      ∧ r.2.mem ((c : Thread nD τ).loc main_arg0) = m ((c : Thread nD τ).loc main_arg0) :=
  (θ_run defs _ _).mono (fun _ h c => ⟨(h c).1.trans (final m c), (h c).2⟩) (Value.run_blocks (F := Ideal) m ρ)

end Cert.KernelIdeal.RefValue

end
-- ==== Proof.RefMix.lean ====
/-
  THE REFERENCE'S MIXING MATRIX. The reference adds a one into a zero matrix at row `o`, column `bin o k`, for every bin
  `o` and every harmonic `k`. An update of a scatter by two index words lands where its two words say (`lands`), and so
  entry `(o, f)` of the matrix counts the harmonics of `o` that land on `f`: it is `hits o f` (`scatter_hits`).
-/
module

public import proofs.«01_k».proof.ReferenceIdeal
public import proofs.«01_k».proof.Proof.Mix
public import Idealize.ShloMosaic.Lib.Routing.OpsPair

@[expose] public section

noncomputable section

namespace Cert.ReferenceIdeal.RefValue

open Idealize.ShloMosaic Idealize.ShloMosaic.ValueIdx Idealize.ShloMosaic.Routing
open Cert.ReferenceIdeal Cert.Proof

/-- Update `a` of a scatter of `A` scalars into an `R × C` matrix, two index words each, lands at `(r, c)` exactly when
    its words, read signed, are `r` and `c`. -/
theorem lands {R C A w : ℕ} (d : ScatterDims (shape2 R C) (shape2 A 2) (shape1 A)) (hiw : d.insertedWindowDims = [0, 1])
    (hsd : d.scatterDimsToOperandDims = [0, 1]) (hivd : d.indexVectorDim = 1) (idx : IVec (shape2 A 2) w)
    (a : Fin A) (r : Fin R) (c : Fin C) :
    d.resultIdx? (ix1 a) idx = some (ix2 r c) ↔ (idx (ix2 a 0)).toInt = r.val ∧ (idx (ix2 a 1)).toInt = c.val := by
  have hm : ∀ q : Fin 2, q ∈ d.scatterDimsToOperandDims := fun q => by rw [hsd]; fin_cases q <;> simp
  have hwin : ∀ q : Fin 2, d.window (ix1 a) q = 0 := fun q => by
    unfold ScatterDims.window
    rw [dif_neg fun h => (of_decide_eq_true (List.mem_filter.1 h).2) (by rw [hiw]; fin_cases q <;> simp)]
  have hsi : ∀ q : Fin 2,
      d.siIdx (ix1 a) ⟨d.scatterDimsToOperandDims.idxOf q, List.idxOf_lt_length_iff.2 (hm q)⟩ = ix2 a q := fun q => by
    funext b
    apply Fin.ext
    match b with
    | ⟨0, _⟩ =>
      unfold ScatterDims.siIdx
      rw [dif_neg (by rw [hivd]; exact Nat.zero_ne_one)]
      unfold ScatterDims.siCoord
      simp only [Fin.val_cast]
      have e : ∀ X : Fin 1, (ix1 a X).val = a.val := fun X => by
        obtain rfl : X = 0 := Subsingleton.elim _ _
        rfl
      exact e _
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 a) idx q = (idx (ix2 a q)).toInt := fun q => by
    unfold ScatterDims.start
    rw [dif_pos (hm q), hsi]
  rw [resultIdx?_ix2, hstart, hstart, hwin, hwin]
  omega

/-- `hits`, as the size of a set of harmonics. -/
theorem hits_card (o f : ℕ) : ((Finset.range 16).filter fun k => bin o k = f).card = hits o f := by
  unfold hits
  rw [List.countP_eq_length_filter]
  show (Multiset.filter _ (Multiset.range 16)).card = _
  simp only [Multiset.range, Multiset.filter_coe, Multiset.coe_card]
  exact congrArg List.length (List.filter_congr fun k _ => (Bool.beq_eq_decide_eq _ _).symm)

/-- Ones added into a zero matrix at row `j / 16`, column `bin (j / 16) (j % 16)`, for every `j`: the matrix of `hits`. -/
theorem scatter_hits [Facts] (idx : IVec S2048x2 32) (x : FVec Ideal S128x128 .f32) (u : FVec Ideal S2048 .f32)
    (hx : ∀ i, (x i : EReal) = 0) (hu : ∀ i, (u i : EReal) = 1)
    (h0 : ∀ j : Fin 2048, (idx (ix2 j 0)).toInt = ((j.val / 16 : ℕ) : ℤ))
    (h1 : ∀ j : Fin 2048, (idx (ix2 j 1)).toInt = ((bin (j.val / 16) (j.val % 16) : ℕ) : ℤ)) (o f : Fin 128) :
    (Host.scatterAdd scatter_S128x128_S2048x2_S2048_n_01_01_1 x idx u (ix2 o f) : EReal) = (hits o f : EReal) := by
  show (x (ix2 o f) : EReal) + ∑ j ∈ Finset.univ.filter (fun j : S2048.Idx =>
    scatter_S128x128_S2048x2_S2048_n_01_01_1.resultIdx? j idx = some (ix2 o f)), (u j : EReal) = _
  rw [hx, zero_add, Finset.sum_congr rfl fun j _ => hu j, Finset.sum_const, EReal.nsmul_eq_mul, mul_one, ← hits_card]
  congr 1
  have hl : ∀ j : Fin 2048, scatter_S128x128_S2048x2_S2048_n_01_01_1.resultIdx? (ix1 j) idx = some (ix2 o f)
      ↔ j.val / 16 = o.val ∧ bin (j.val / 16) (j.val % 16) = f.val := fun j => by
    refine (lands scatter_S128x128_S2048x2_S2048_n_01_01_1 rfl rfl rfl idx j o f).trans ?_
    rw [h0, h1]
    omega
  have ho := o.isLt
  refine Finset.card_nbij' (fun j => (j 0).val % 16) (fun k => ix1 (⟨(o.val * 16 + k) % 2048, Nat.mod_lt _ (by omega)⟩ : Fin 2048))
    ?_ ?_ ?_ ?_
  · intro j hj
    obtain ⟨a, rfl⟩ : ∃ a : Fin 2048, j = ix1 a := ⟨j 0, eq_ix1 j⟩
    have h := (hl a).1 (Finset.mem_filter.1 hj).2
    rw [h.1] at h
    exact Finset.mem_filter.2 ⟨Finset.mem_range.2 (Nat.mod_lt _ (by omega)), h.2⟩
  · intro k hk
    have hk16 := Finset.mem_range.1 (Finset.mem_filter.1 hk).1
    refine Finset.mem_filter.2 ⟨Finset.mem_univ _, (hl _).2 ?_⟩
    have e1 : (o.val * 16 + k) % 2048 / 16 = o.val := by omega
    have e2 : (o.val * 16 + k) % 2048 % 16 = k := by omega
    dsimp only
    rw [e1, e2]
    exact ⟨rfl, (Finset.mem_filter.1 hk).2⟩
  · intro j hj
    obtain ⟨a, rfl⟩ : ∃ a : Fin 2048, j = ix1 a := ⟨j 0, eq_ix1 j⟩
    have h := (hl a).1 (Finset.mem_filter.1 hj).2
    refine congrArg ix1 (Fin.ext ?_)
    show (o.val * 16 + a.val % 16) % 2048 = a.val
    have := a.isLt
    omega
  · intro k hk
    have hk16 := Finset.mem_range.1 (Finset.mem_filter.1 hk).1
    show (o.val * 16 + k) % 2048 % 16 = k
    omega

end Cert.ReferenceIdeal.RefValue

end
-- ==== Proof.RefWindow.lean ====
/-
  THE REFERENCE'S WINDOWS. The reference sums the padded series from its start (`running`), puts a zero before the sums,
  and takes the difference of two of them seventeen apart. Over finite values that difference is the sum of the seventeen
  entries between (`difference`); over infinite ones it need not be, for `∞ - ∞` is not zero.
-/
module

public import proofs.«01_k».proof.ReferenceIdeal
public import proofs.«01_k».proof.Proof.Spec

@[expose] public section

set_option maxRecDepth 16384

noncomputable section

namespace Cert.ReferenceIdeal.RefValue

open Idealize.ShloMosaic Idealize.ShloMosaic.Pointwise
open Cert.ReferenceIdeal Cert.Proof

/-- Two running sums of finite values, `k` apart, differ by the `k` values between. -/
theorem difference (y : ℕ → EReal) (hy : ∀ s, ∃ r : ℝ, y s = (r : EReal)) (t k : ℕ) :
    (∑ s ∈ Finset.range (t + k), y s) - ∑ s ∈ Finset.range t, y s = ∑ d ∈ Finset.range k, y (t + d) := by
  choose g hg using hy
  have hsum : ∀ (n : ℕ) (u : ℕ → ℝ), (∑ s ∈ Finset.range n, (u s : EReal)) = ((∑ s ∈ Finset.range n, u s : ℝ) : EReal) := by
    intro n u
    induction n with
    | zero => simp
    | succ n ih => rw [Finset.sum_range_succ, Finset.sum_range_succ, ih, EReal.coe_add]
  simp only [hg]
  rw [hsum, hsum, hsum _ fun d => g (t + d), ← EReal.coe_sub, Finset.sum_range_add, add_sub_cancel_left]

/-- A fold that adds one term after another is the sum of the terms. -/
theorem foldl_add {α : Type} (g : α → EReal) (l : List α) (a : EReal) : l.foldl (fun r n => r + g n) a = a + (l.map g).sum := by
  induction l generalizing a with
  | nil => simp
  | cons b l ih => rw [List.foldl_cons, ih, List.map_cons, List.sum_cons, add_assoc]

/-- A sum over 272 positions of which the first `271 - n` count nothing. -/
theorem sum_shift (y : ℕ → EReal) (n : ℕ) (hn : n < 272) :
    ∑ w ∈ Finset.range 272, (if 271 ≤ n + w then y (n + w - 271) else 0) = ∑ s ∈ Finset.range (n + 1), y s := by
  rw [show 272 = (271 - n) + (n + 1) by omega, Finset.sum_range_add, Finset.sum_eq_zero fun w hw => ?_, zero_add]
  · refine Finset.sum_congr rfl fun s _ => ?_
    rw [if_pos (by omega)]
    exact congrArg y (by omega)
  · have := Finset.mem_range.1 hw
    exact if_neg (by omega)

theorem numel_window : (⟨4, ![1, 272, 1, 1]⟩ : Shape).numel = 272 := by decide

theorem symm_window (n : Fin (⟨4, ![1, 272, 1, 1]⟩ : Shape).numel) :
    (⟨4, ![1, 272, 1, 1]⟩ : Shape).rowMajor.symm n = ix4 (0 : Fin 1) (n.cast numel_window) (0 : Fin 1) (0 : Fin 1) :=
  ((⟨4, ![1, 272, 1, 1]⟩ : Shape).rowMajor.symm_apply_eq).2 (Fin.ext (by
    rw [Shape.rowMajor_val_four]
    show n.val = ((0 * 272 + n.val) * 1 + 0) * 1 + 0
    omega))

/-- The running sum in time, as the reference writes it: a window of the whole length, padded before by one less. -/
theorem running [Facts] (x : FVec Ideal S4x272x128x128 .f32) (init : FVec Ideal S_ .f32) (hi : ∀ i, (init i : EReal) = 0)
    (h : S4x272x128x128.ReduceWindows (![1, 272, 1, 1] : Fin 4 → ℕ) ![1, 1, 1, 1] ![0, 271, 0, 0] ![0, 0, 0, 0] S4x272x128x128)
    (hu : 0 < S_.numel) (b : Fin 4) (f c : Fin 128) (y : ℕ → EReal)
    (hy : ∀ s : Fin 272, (x (ix4 b s f c) : EReal) = y s) (n : Fin 272) :
    (Host.reduceWindowAdd ![1, 272, 1, 1] ![1, 1, 1, 1] ![0, 271, 0, 0] ![0, 0, 0, 0] x init h hu (ix4 b n f c) : EReal)
      = ∑ s ∈ Finset.range (n.val + 1), y s := by
  have hn := n.isLt
  rw [← sum_shift y n.val hn]
  show Ideal.hostReduceWindowAdd _ _ _ _ h x (init (Shape.Idx.first hu)) (ix4 b n f c) = _
  rw [hi]
  unfold Ideal.hostReduceWindowAdd Host.reduceWindow
  dsimp only
  rw [foldl_add, zero_add, ← List.ofFn_eq_map, List.sum_ofFn]
  have e : Finset.range 272 = Finset.range (⟨4, ![1, 272, 1, 1]⟩ : Shape).numel := by rw [numel_window]
  rw [e, ← Fin.sum_univ_eq_sum_range fun w => if 271 ≤ n.val + w then y (n.val + w - 271) else 0]
  refine Finset.sum_congr rfl fun w _ => ?_
  have hw : w.val < 272 := (w.cast numel_window).isLt
  have h0 : ((⟨4, ![1, 272, 1, 1]⟩ : Shape).rowMajor.symm w 0).val = 0 := by rw [symm_window]; rfl
  have h1 : ((⟨4, ![1, 272, 1, 1]⟩ : Shape).rowMajor.symm w 1).val = w.val := by rw [symm_window]; rfl
  have h2 : ((⟨4, ![1, 272, 1, 1]⟩ : Shape).rowMajor.symm w 2).val = 0 := by rw [symm_window]; rfl
  have h3 : ((⟨4, ![1, 272, 1, 1]⟩ : Shape).rowMajor.symm w 3).val = 0 := by rw [symm_window]; rfl
  split
  · next hin =>
    have q := hin 1
    change 271 ≤ n.val * 1 + ((⟨4, ![1, 272, 1, 1]⟩ : Shape).rowMajor.symm w 1).val
      ∧ n.val * 1 + ((⟨4, ![1, 272, 1, 1]⟩ : Shape).rowMajor.symm w 1).val - 271 < 272 at q
    rw [h1] at q
    rw [if_pos (by omega)]
    refine (congrArg x (funext fun a => Fin.ext ?_)).trans (hy ⟨n.val + w.val - 271, by omega⟩)
    match a with
    | ⟨0, _⟩ =>
      show b.val * 1 + ((⟨4, ![1, 272, 1, 1]⟩ : Shape).rowMajor.symm w 0).val - 0 = b.val
      rw [h0]; omega
    | ⟨1, _⟩ =>
      show n.val * 1 + ((⟨4, ![1, 272, 1, 1]⟩ : Shape).rowMajor.symm w 1).val - 271 = n.val + w.val - 271
      rw [h1]; omega
    | ⟨2, _⟩ =>
      show f.val * 1 + ((⟨4, ![1, 272, 1, 1]⟩ : Shape).rowMajor.symm w 2).val - 0 = f.val
      rw [h2]; omega
    | ⟨3, _⟩ =>
      show c.val * 1 + ((⟨4, ![1, 272, 1, 1]⟩ : Shape).rowMajor.symm w 3).val - 0 = c.val
      rw [h3]; omega
  · next hin =>
    refine (if_neg fun hle => hin fun a => ?_).symm
    have hb := b.isLt
    have hf := f.isLt
    have hc := c.isLt
    match a with
    | ⟨0, _⟩ =>
      show 0 ≤ b.val * 1 + ((⟨4, ![1, 272, 1, 1]⟩ : Shape).rowMajor.symm w 0).val
        ∧ b.val * 1 + ((⟨4, ![1, 272, 1, 1]⟩ : Shape).rowMajor.symm w 0).val - 0 < 4
      rw [h0]; omega
    | ⟨1, _⟩ =>
      show 271 ≤ n.val * 1 + ((⟨4, ![1, 272, 1, 1]⟩ : Shape).rowMajor.symm w 1).val
        ∧ n.val * 1 + ((⟨4, ![1, 272, 1, 1]⟩ : Shape).rowMajor.symm w 1).val - 271 < 272
      rw [h1]; omega
    | ⟨2, _⟩ =>
      show 0 ≤ f.val * 1 + ((⟨4, ![1, 272, 1, 1]⟩ : Shape).rowMajor.symm w 2).val
        ∧ f.val * 1 + ((⟨4, ![1, 272, 1, 1]⟩ : Shape).rowMajor.symm w 2).val - 0 < 128
      rw [h2]; omega
    | ⟨3, _⟩ =>
      show 0 ≤ c.val * 1 + ((⟨4, ![1, 272, 1, 1]⟩ : Shape).rowMajor.symm w 3).val
        ∧ c.val * 1 + ((⟨4, ![1, 272, 1, 1]⟩ : Shape).rowMajor.symm w 3).val - 0 < 128
      rw [h3]; omega

end Cert.ReferenceIdeal.RefValue

end
-- ==== Proof.RefValue.lean ====
/-
  THE REFERENCE'S RESULT: over a finite input it is `result` of that input. Its matrix is that of `hits`, its windows are
  differences of running sums, and the product of the two is transposed into the input's order of axes.
-/
module

public import proofs.«01_k».proof.Proof.Gen.ReferenceIdeal.Run
public import proofs.«01_k».proof.Proof.RefMix
public import proofs.«01_k».proof.Proof.RefWindow

@[expose] public section

set_option maxRecDepth 16384

noncomputable section

namespace Cert.ReferenceIdeal.RefValue

open Idealize.ShloMosaic Idealize.ShloMosaic.TcCoe Idealize.ShloMosaic.Pointwise Idealize.SL.Sem
open Cert.ReferenceIdeal Cert.ReferenceIdeal.Gen Cert.Proof

theorem product_apply (x : FVec Ideal S128x128 .f32) (y : FVec Ideal S4x256x128x128 .f32) (b : Fin 4) (t : Fin 256)
    (o c : Fin 128) :
    (transpose S4x256x128x128 [1, 2, 0, 3]
      (Host.dotGeneral dot_S128x128_S4x256x128x128_S128x4x256x128_1_2_0_013_n_n none x y)
      transposes_S128x4x256x128_S4x256x128x128_1_2_0_3 (ix4 b t o c) : EReal)
      = ∑ f : Fin 128, (x (ix2 o f) : EReal) * y (ix4 b t f c) := by
  pointwise

/-- The running sums with a zero before them, at `n`: the sum of the first `n` values. -/
theorem sums_apply (z : FVec Ideal S4x1x128x128 .f32) (r : FVec Ideal S4x272x128x128 .f32) (b : Fin 4) (f c : Fin 128)
    (y : ℕ → EReal) (hz : ∀ i, (z i : EReal) = 0)
    (hr : ∀ n : Fin 272, (r (ix4 b n f c) : EReal) = ∑ s ∈ Finset.range (n.val + 1), y s) (n : Fin 273) :
    (concatenate S4x273x128x128 1 [⟨S4x1x128x128, z⟩, ⟨S4x272x128x128, r⟩]
      concatenates_S4x1x128x128_S4x272x128x128_S4x273x128x128_d1 (ix4 b n f c) : EReal) = ∑ s ∈ Finset.range n.val, y s := by
  pointwise
  split
  · next h => rw [hz, show n.val = 0 by omega, Finset.sum_range_zero]
  · next h =>
    rw [hr]
    show ∑ s ∈ Finset.range (n.val - 1 + 1), y s = _
    rw [show n.val - 1 + 1 = n.val by omega]

/-- The difference of two running sums seventeen apart. -/
theorem windows_apply (v : FVec Ideal S4x273x128x128 .f32) (b : Fin 4) (f c : Fin 128) (y : ℕ → EReal)
    (hy : ∀ s, ∃ r : ℝ, y s = (r : EReal))
    (hv : ∀ n : Fin 273, (v (ix4 b n f c) : EReal) = ∑ s ∈ Finset.range n.val, y s) (t : Fin 256) :
    (subf (extractStridedSlice S4x256x128x128 ![0, 17, 0, 0] v slices_S4x273x128x128_S4x256x128x128_0_17_0_0)
      (extractStridedSlice S4x256x128x128 ![0, 0, 0, 0] v slices_S4x273x128x128_S4x256x128x128_0_0_0_0) (ix4 b t f c) : EReal)
      = ∑ d ∈ Finset.range 17, y (t.val + d) := by
  rw [← difference y hy t.val 17, ← hv ⟨t.val + 17, by omega⟩, ← hv ⟨t.val, by omega⟩]
  pointwise
  rw [show (⟨17 + t.val, by omega⟩ : Fin 273) = ⟨t.val + 17, by omega⟩ from Fin.ext (Nat.add_comm _ _)]

/-- The input with eight zeros before it and after it, in time. -/
theorem pad_eq (x : FVec Ideal S4x256x128x128 .f32) (v : FVec Ideal S_ .f32) (hv : ∀ i, (v i : EReal) = 0) (b : Fin 4)
    (s : Fin 272) (f c : Fin 128) :
    (pad S4x272x128x128 ![0, 8, 0, 0] ![0, 8, 0, 0] ![0, 0, 0, 0] x v pads_S4x256x128x128_S4x272x128x128_000_880_000_000 h_S_
      (ix4 b s f c) : EReal) = padded (series x b f c) s.val := by
  unfold padded series
  pointwise
  split
  · next h => rw [if_pos (by omega), dif_pos h.2]
  · next h => rw [if_neg (by omega), hv]

/-- The first index word of update `j`: its bin. -/
theorem word_row : ∀ j : Fin 2048,
    (Scalar.select (IntOp.cmpi .slt (BitVec.ofNat 32 (j.val / 16)) 0#32) (IntOp.addi (BitVec.ofNat 32 (j.val / 16)) 128#32)
      (BitVec.ofNat 32 (j.val / 16))).toInt = ((j.val / 16 : ℕ) : ℤ) := by
  decide +kernel

/-- The second index word of update `j`, before jnp's wrap of a negative index: its bin times its harmonic, clipped. -/
def wordCol (j : ℕ) : BitVec 32 :=
  IntOp.minsi 127#32 (IntOp.maxsi 0#32 (IntOp.muli (BitVec.ofNat 32 (j / 16)) (IntOp.addi 1#32 (BitVec.ofNat 32 (j % 16)))))

theorem word_col : ∀ j : Fin 2048,
    (Scalar.select (IntOp.cmpi .slt (wordCol j.val) 0#32) (IntOp.addi (wordCol j.val) 128#32) (wordCol j.val)).toInt
      = ((bin (j.val / 16) (j.val % 16) : ℕ) : ℤ) := by
  decide +kernel

variable (m : (ℓ : Loc nD τ sig) → Buf (Elt Ideal) ℓ) (ρ : Dev nD → PrngReg)

/-- The input of core `c`. -/
abbrev input (c : Dev nD) : SX.Idx → EReal := m ((c : Thread nD τ).loc main_arg0)

theorem final (c : Dev nD) (hx : ∀ i, ∃ r : ℝ, input m c i = (r : EReal)) : Value.res_out0 m c = result (input m c) := by
  funext j
  obtain ⟨b, t, o, k, rfl⟩ : ∃ (b : Fin 4) (t : Fin 256) (o k : Fin 128), j = ix4 b t o k :=
    ⟨j 0, j 1, j 2, j 3, eq_ix4 j⟩
  unfold Value.res_out0 Value.res_main_v38
  refine (product_apply _ _ b t o k).trans ?_
  refine Finset.sum_congr (M := EReal) rfl fun f _ => ?_
  refine congrArg₂ (· * ·) (scatter_hits _ _ _ (fun i => ?_) (fun i => ?_) (fun i => ?_) (fun i => ?_) o f) ?_
  · pointwise
  · pointwise
  · pointwise
    exact word_row i
  · pointwise
    exact word_col i
  · refine windows_apply _ b f k _ (fun s => ?_) (fun n => sums_apply _ _ b f k _ (fun i => ?_)
      (fun n => running _ _ (fun i => ?_) _ _ b f k (padded (series (input m c) b f k)) (fun s => ?_) n) n) t
    · unfold padded series
      split
      · split
        · exact hx _
        · exact ⟨0, rfl⟩
      · exact ⟨0, rfl⟩
    · pointwise
    · pointwise
    · refine pad_eq _ _ (fun i => ?_) b s f k
      pointwise
      show (((0#32 : BitVec 32).toInt : ℝ) : EReal) = 0
      simp

/-- The reference runs; over a finite input its result is `result` of the input, which it leaves as it is. -/
theorem run (hx : ∀ c i, ∃ r : ℝ, input m c i = (r : EReal)) :
    θ_run defs (onTc (τ := τ) (main (F := Ideal))) ⟨m, fun _ => 0, ρ⟩ fun r => ∀ c : Dev nD,
      r.2.mem ((c : Thread nD τ).loc main_v38) = result (input m c)
      ∧ r.2.mem ((c : Thread nD τ).loc main_arg0) = m ((c : Thread nD τ).loc main_arg0) :=
  (θ_run defs _ _).mono (fun _ h c => ⟨(h c).1.trans (final m c (hx c)), (h c).2⟩) (Value.run (F := Ideal) m ρ)

end Cert.ReferenceIdeal.RefValue

end
-- ==== Proof.Finite.lean ====
/-
  THE PRECONDITION, READ BACK. The claim on the result is stated of finite inputs: the input's magnitudes are all below
  infinity. Then every entry of the input is a real number.
-/
module

public import proofs.«01_k».proof.Defs
public import proofs.«01_k».proof.Proof.Gen.Pre_finite
public import proofs.«01_k».proof.Proof.Spec
public import Idealize.ShloMosaic.Lib.ReduceAll

@[expose] public section

set_option maxRecDepth 16384

noncomputable section

namespace Cert.Proof

open Idealize.ShloMosaic Idealize.ShloMosaic.Pointwise

/-- The word the magnitudes are compared with is infinity. -/
theorem ofBits_inf : (Ideal.ofBits .f32 0x7F800000#32 : EReal) = ⊤ := by
  simp [Ideal.ofBits, Ideal.ieee]

/-- An extended real of magnitude below infinity is a real number. -/
theorem real_of_abs_lt (x : EReal) (h : max x (-x) < ⊤) : ∃ r : ℝ, x = (r : EReal) := by
  induction x with
  | bot => simp at h
  | coe r => exact ⟨r, rfl⟩
  | top => simp at h

/-- Where the precondition holds, every entry of the input is a real number. -/
theorem real_of_finite (x : FVec Ideal Cert.Pre_finite.S4x256x128x128 .f32)
    (h : Cert.Pre_finite.fn (F := Ideal) x = fun _ => 1#1) (i : SX.Idx) : ∃ r : ℝ, (x i : EReal) = (r : EReal) := by
  refine real_of_abs_lt _ ?_
  have e := Host.reduce_andi_all (t := Cert.Pre_finite.S_) _ _ _ _ ix0 (congrFun h ix0) i
  change Ideal.cmp .olt (max (x i : EReal) (-(x i : EReal))) (Ideal.ofBits .f32 0x7F800000#32) = 1#1 at e
  rw [ofBits_inf] at e
  by_contra hc
  unfold Ideal.cmp at e
  dsimp only at e
  rw [decide_eq_false hc] at e
  exact absurd e (by decide)

end Cert.Proof

end
-- ==== Proof.Claims.lean ====
/-
  THE CLAIMS. Both programs run from any input and leave the input and the counters as they found them; the idealized
  kernel is the kernel's own text; and over a finite input the kernel's result and the reference's are the same array of
  extended reals, `result` of the input.
-/
module

public import proofs.«01_k».proof.Defs
public import proofs.«01_k».proof.Proof.Gen.Kernel.Frame
public import proofs.«01_k».proof.Proof.KernelValue
public import proofs.«01_k».proof.Proof.RefValue
public import proofs.«01_k».proof.Proof.Finite
public import Idealize.ShloMosaic.Lib.Quiescent

@[expose] public section

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

/-- The reference has no counters. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_finite : Cert.quiescent_ReferenceIdeal_pre_finite := fun m ρ _ => frame_reference m ρ trivial

theorem preserves : Cert.preserves_Kernel_KernelIdeal := trivial

/-- Over a finite input the two programs end with one array. -/
theorem algebraic : Cert.algebraic_KernelIdeal_ReferenceIdeal_pre_finite := by
  intro m ρ m' ρ' hfin hagree
  have e (c : Dev Cert.KernelIdeal.nD) : Cert.ReferenceIdeal.RefValue.input m' c = Cert.KernelIdeal.RefValue.input m c :=
    hagree c
  refine ⟨fun c => result (Cert.KernelIdeal.RefValue.input m c), Cert.KernelIdeal.RefValue.run m ρ, ?_⟩
  refine (θ_run Cert.ReferenceIdeal.defs _ _).mono (fun _ h c => ⟨(h c).1.trans (congrArg result (e c)), (h c).2⟩)
    (Cert.ReferenceIdeal.RefValue.run m' ρ' fun c i => ?_)
  rw [e c]
  exact real_of_finite _ (hfin c) i

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  frame_kernel, frame_ideal, frame_ideal_finite, frame_reference, frame_reference_finite, preserves, algebraic⟩

end Cert.Proof

end
